-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_targets [hPre_finite_targets : Cert.Pre_finite_targets.Facts] (m : (ℓ : Loc Cert.KernelIdeal.nD Cert.KernelIdeal.τ Cert.KernelIdeal.sig) → Buf (Elt Ideal) ℓ) : Prop :=
  ∀ c : Dev Cert.KernelIdeal.nD,
    (Cert.Pre_finite_targets.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_targets [hPre_finite_targets : Cert.Pre_finite_targets.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_targets.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_targets [hKernelIdeal : Cert.KernelIdeal.Facts] [hPre_finite_targets : Cert.Pre_finite_targets.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_targets m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_targets [hReferenceIdeal : Cert.ReferenceIdeal.Facts] [hPre_finite_targets : Cert.Pre_finite_targets.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_targets m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_n" .f32 0x32CCCCCD#32 ((41943040⁻¹ : ℝ) : EReal)

def algebraic_KernelIdeal_ReferenceIdeal_pre_finite_targets [hKernelIdeal : Cert.KernelIdeal.Facts] [hReferenceIdeal : Cert.ReferenceIdeal.Facts] [hPre_finite_targets : Cert.Pre_finite_targets.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_targets m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_targets : Cert.Pre_finite_targets.Facts),
    quiescent_Kernel (hKernel := hKernel)
    ∧ quiescent_KernelIdeal (hKernelIdeal := hKernelIdeal)
    ∧ quiescent_KernelIdeal_pre_finite_targets (hKernelIdeal := hKernelIdeal) (hPre_finite_targets := hPre_finite_targets)
    ∧ quiescent_ReferenceIdeal (hReferenceIdeal := hReferenceIdeal)
    ∧ quiescent_ReferenceIdeal_pre_finite_targets (hReferenceIdeal := hReferenceIdeal) (hPre_finite_targets := hPre_finite_targets)
    ∧ preserves_Kernel_KernelIdeal
    ∧ algebraic_KernelIdeal_ReferenceIdeal_pre_finite_targets (hKernelIdeal := hKernelIdeal) (hReferenceIdeal := hReferenceIdeal) (hPre_finite_targets := hPre_finite_targets)
-- ==== Pre_finite_targets.lean ====
abbrev S8x65536x80 : Shape := ⟨3, ![8, 65536, 80]⟩
abbrev S_ : Shape := ⟨0, ![]⟩

class Facts : Prop where
  bcast_S_S8x65536x80 : S_.BroadcastsInDim S8x65536x80 (![] : Fin 0 → Fin S8x65536x80.rank)

variable [Facts]

def fn {F : FTy → Type} [FloatOps F] (main_arg0 : FVec F S8x65536x80 .f32) (main_arg1 : FVec F S8x65536x80 .f32) : IVec S8x65536x80 1 :=
  let main_v0 : FVec F S8x65536x80 .f32 := Host.absf main_arg1
  let main_cst : FVec F S_ .f32 := constant S_ .f32 0x7F800000#32
  let main_v1 : FVec F S8x65536x80 .f32 := broadcastInDim S8x65536x80 ![] bcast_S_S8x65536x80 main_cst
  let main_v2 : IVec S8x65536x80 1 := cmpf .olt main_v0 main_v1
  main_v2
-- ==== Kernel.lean ====
abbrev S8x65536x80 : Shape := ⟨3, ![8, 65536, 80]⟩
abbrev S524288x80 : Shape := ⟨2, ![524288, 80]⟩
abbrev S1x1 : Shape := ⟨2, ![1, 1]⟩
abbrev S8192x80 : Shape := ⟨2, ![8192, 80]⟩
abbrev S1x8192x80 : Shape := ⟨3, ![1, 8192, 80]⟩
abbrev S1 : Shape := ⟨1, ![1]⟩
abbrev S1x1x1 : Shape := ⟨3, ![1, 1, 1]⟩
abbrev S_ : Shape := ⟨0, ![]⟩

abbrev nBuf : Space → Nat
  | .hbm => 6
  | .vmem => 4
  | .smem => 1
  | _ => 0

abbrev bufTy : (tb : Table) → Fin (tcTables nBuf tb) → BufTy
  | .hbm, ⟨0, _⟩ => ⟨S8x65536x80, .f32⟩
  | .hbm, ⟨1, _⟩ => ⟨S8x65536x80, .f32⟩
  | .hbm, ⟨2, _⟩ => ⟨S524288x80, .f32⟩
  | .hbm, ⟨3, _⟩ => ⟨S524288x80, .f32⟩
  | .hbm, ⟨4, _⟩ => ⟨S1x1, .f32⟩
  | .hbm, ⟨5, _⟩ => ⟨S_, .f32⟩
  | .local _ .vmem, ⟨0, _⟩ => ⟨S8192x80, .f32⟩
  | .local _ .vmem, ⟨1, _⟩ => ⟨S8192x80, .f32⟩
  | .local _ .vmem, ⟨2, _⟩ => ⟨S8192x80, .f32⟩
  | .local _ .vmem, ⟨3, _⟩ => ⟨S8192x80, .f32⟩
  | .local _ .smem, ⟨0, _⟩ => ⟨S1x1, .f32⟩
  | _, _ => ⟨S8x65536x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KernelIdeal.lean ====
variable {F : FTy → Type} [FloatOps F] [Named F]
def κ : String → Option EReal := fun
  | "inv_n" => some ((41943040⁻¹ : ℝ) : EReal)
  | _ => none
-- ==== ReferenceIdeal.lean ====
abbrev S8x65536x80 : Shape := ⟨3, ![8, 65536, 80]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S8x65536x80, .f32⟩
  | .hbm, ⟨1, _⟩ => ⟨S8x65536x80, .f32⟩
  | .hbm, ⟨2, _⟩ => ⟨S8x65536x80, .f32⟩
  | .hbm, ⟨3, _⟩ => ⟨S8x65536x80, .f32⟩
  | .hbm, ⟨4, _⟩ => ⟨S_, .f32⟩
  | .hbm, ⟨5, _⟩ => ⟨S8x65536x80, .f32⟩
  | .hbm, ⟨6, _⟩ => ⟨S8x65536x80, .f32⟩
  | .hbm, ⟨7, _⟩ => ⟨S_, .f32⟩
  | .hbm, ⟨8, _⟩ => ⟨S8x65536x80, .f32⟩
  | .hbm, ⟨9, _⟩ => ⟨S8x65536x80, .f32⟩
  | .hbm, ⟨10, _⟩ => ⟨S_, .f32⟩
  | .hbm, ⟨11, _⟩ => ⟨S8x65536x80, .f32⟩
  | .hbm, ⟨12, _⟩ => ⟨S8x65536x80, .f32⟩
  | .hbm, ⟨13, _⟩ => ⟨S8x65536x80, .f32⟩
  | .hbm, ⟨14, _⟩ => ⟨S8x65536x80, .f32⟩
  | .hbm, ⟨15, _⟩ => ⟨S8x65536x80, .f32⟩
  | .hbm, ⟨16, _⟩ => ⟨S8x65536x80, .f32⟩
  | .hbm, ⟨17, _⟩ => ⟨S8x65536x80, .f32⟩
  | .hbm, ⟨18, _⟩ => ⟨S8x65536x80, .f32⟩
  | .hbm, ⟨19, _⟩ => ⟨S8x65536x80, .f32⟩
  | .hbm, ⟨20, _⟩ => ⟨S8x65536x80, .f32⟩
  | .hbm, ⟨21, _⟩ => ⟨S_, .f32⟩
  | .hbm, ⟨22, _⟩ => ⟨S8x65536x80, .f32⟩
  | .hbm, ⟨23, _⟩ => ⟨S8x65536x80, .f32⟩
  | .hbm, ⟨24, _⟩ => ⟨S_, .f32⟩
  | .hbm, ⟨25, _⟩ => ⟨S8x65536x80, .f32⟩
  | .hbm, ⟨26, _⟩ => ⟨S8x65536x80, .f32⟩
  | .hbm, ⟨27, _⟩ => ⟨S8x65536x80, .f32⟩
  | .hbm, ⟨28, _⟩ => ⟨S8x65536x80, .f32⟩
  | .hbm, ⟨29, _⟩ => ⟨S_, .f32⟩
  | .hbm, ⟨30, _⟩ => ⟨S8x65536x80, .f32⟩
  | .hbm, ⟨31, _⟩ => ⟨S8x65536x80, .f32⟩
  | .hbm, ⟨32, _⟩ => ⟨S_, .f32⟩
  | .hbm, ⟨33, _⟩ => ⟨S8x65536x80, .f32⟩
  | .hbm, ⟨34, _⟩ => ⟨S8x65536x80, .f32⟩
  | .hbm, ⟨35, _⟩ => ⟨S8x65536x80, .f32⟩
  | .hbm, ⟨36, _⟩ => ⟨S_, .f32⟩
  | .hbm, ⟨37, _⟩ => ⟨S8x65536x80, .f32⟩
  | .hbm, ⟨38, _⟩ => ⟨S8x65536x80, .f32⟩
  | .hbm, ⟨39, _⟩ => ⟨S_, .f32⟩
  | .hbm, ⟨40, _⟩ => ⟨S8x65536x80, .f32⟩
  | .hbm, ⟨41, _⟩ => ⟨S8x65536x80, .f32⟩
  | .hbm, ⟨42, _⟩ => ⟨S_, .f32⟩
  | .hbm, ⟨43, _⟩ => ⟨S8x65536x80, .f32⟩
  | .hbm, ⟨44, _⟩ => ⟨S8x65536x80, .f32⟩
  | .hbm, ⟨45, _⟩ => ⟨S8x65536x80, .f32⟩
  | .hbm, ⟨46, _⟩ => ⟨S8x65536x80, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S8x65536x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev main_v30 : Ref sig .tc := ⟨.hbm, 41, rfl⟩
abbrev main_cst_8 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_9 : Ref sig .tc := ⟨.hbm, 47, rfl⟩
abbrev main_v35 : Ref sig .tc := ⟨.hbm, 48, rfl⟩
abbrev main_cst_10 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Proof.Consts.lean ====
/-
  The numbers the programs write as 32-bit patterns, as extended reals: the small dyadic constants of the focal loss, the
  infinity the precondition compares with, the number of elements, and its reciprocal (the one named constant).
-/
module

public import proofs.«01_k».proof.KernelIdeal
public import Idealize.ShloMosaic.PureOps.Ideal
public import Idealize.ShloMosaic.PureOps.IdealRules
public import Idealize.ShloMosaic.PureOps.Ideal.Laws

@[expose] public section

noncomputable section

namespace Cert.Focal

open Idealize.ShloMosaic

/-- The pattern of 1.0 is one. -/
theorem one_eq : Ideal.ofBits .f32 0x3F800000#32 = ((1 : ℝ) : EReal) := by
  simp [Ideal.ofBits, Ideal.ieee, -EReal.coe_mul]; norm_num

/-- The pattern of 2.0 is two. -/
theorem two_eq : Ideal.ofBits .f32 0x40000000#32 = ((2 : ℝ) : EReal) := by
  simp [Ideal.ofBits, Ideal.ieee, -EReal.coe_mul]; norm_num

/-- The pattern of 0.5 is one half. -/
theorem half_eq : Ideal.ofBits .f32 0x3F000000#32 = ((1 / 2 : ℝ) : EReal) := by
  simp [Ideal.ofBits, Ideal.ieee, -EReal.coe_mul]; norm_num

/-- The pattern of 0.25 is one quarter. -/
theorem quarter_eq : Ideal.ofBits .f32 0x3E800000#32 = ((1 / 4 : ℝ) : EReal) := by
  simp [Ideal.ofBits, Ideal.ieee, -EReal.coe_mul]; norm_num

/-- The pattern of 0.75 is three quarters. -/
theorem threeQuarters_eq : Ideal.ofBits .f32 0x3F400000#32 = ((3 / 4 : ℝ) : EReal) := by
  simp [Ideal.ofBits, Ideal.ieee, -EReal.coe_mul]; norm_num

/-- The pattern of 41943040.0 is the number of elements, 8 · 65536 · 80. -/
theorem count_eq : Ideal.ofBits .f32 0x4C200000#32 = ((41943040 : ℝ) : EReal) := by
  simp [Ideal.ofBits, Ideal.ieee, -EReal.coe_mul]; norm_num

/-- The pattern of infinity is the greatest extended real. -/
theorem inf_eq : Ideal.ofBits .f32 0x7F800000#32 = (⊤ : EReal) := by
  simp [Ideal.ofBits, Ideal.ieee]

/-- The named constant of the kernel is the reciprocal of the number of elements. -/
theorem invCount_eq : Named.named (F := Ideal) (φ := .f32) Cert.KernelIdeal.κ "inv_n" 0x32CCCCCD#32 = ((41943040⁻¹ : ℝ) : EReal) :=
  IdealRules.named_const.ideal_named_scalar _ _ _ _ rfl

end Cert.Focal

end
-- ==== Proof.Element.lean ====
/-
  One element of the focal loss, over the extended reals: what the kernel adds for a logit `x` and a target `t`, what the
  reference adds, and the equation between the two for every extended real `x` and every real `t`.
-/
module

public import Idealize.ShloMosaic.PureOps.Ideal
public import Idealize.ShloMosaic.PureOps.Ideal.Laws

@[expose] public section

noncomputable section

namespace Cert.Focal

open Idealize.ShloMosaic

/-- The binary cross-entropy of a logit and a target: `max(x, 0) - x t + log (1 + e)`, with `e` standing for `exp (-|x|)`. -/
def ce (e x t : EReal) : EReal := max x 0 - x * t + Ideal.log1p e

/-- The sigmoid as the kernel computes it, from `e = exp (-|x|)`: `1 / (1 + e)` for a nonnegative logit, `e / (1 + e)` for a
    negative one. -/
def kernelProb (e x : EReal) : EReal :=
  if Ideal.cmp .oge x 0 = 1#1 then Ideal.div ((1 : ℝ) : EReal) (((1 : ℝ) : EReal) + e)
  else e * Ideal.div ((1 : ℝ) : EReal) (((1 : ℝ) : EReal) + e)

/-- The kernel's modulating factor `p + t - 2 p t`. -/
def kernelWeight (p t : EReal) : EReal := p + t - ((2 : ℝ) : EReal) * p * t

/-- What the kernel adds for one element, from `e = exp (-|x|)`. -/
def kernelTerm (e x t : EReal) : EReal :=
  (((3 / 4 : ℝ) : EReal) - ((1 / 2 : ℝ) : EReal) * t) * ce e x t * kernelWeight (kernelProb e x) t
    * kernelWeight (kernelProb e x) t

/-- The sigmoid as the reference computes it. -/
def refProb (x : EReal) : EReal := Ideal.div ((1 : ℝ) : EReal) (((1 : ℝ) : EReal) + Ideal.exp (-x))

/-- The reference's probability of the target. -/
def refTarget (p t : EReal) : EReal := p * t + (((1 : ℝ) : EReal) - p) * (((1 : ℝ) : EReal) - t)

/-- What the reference adds for one element. -/
def refTerm (x t : EReal) : EReal :=
  (((1 / 4 : ℝ) : EReal) * t + ((3 / 4 : ℝ) : EReal) * (((1 : ℝ) : EReal) - t))
    * (ce (Ideal.exp (-max x (-x))) x t
      * Ideal.pow (((1 : ℝ) : EReal) - refTarget (refProb x) t) ((2 : ℝ) : EReal))

/-- At every logit the two sigmoids are one real number. -/
theorem prob_eq (x : EReal) :
    ∃ p : ℝ, kernelProb (Ideal.exp (-max x (-x))) x = (p : EReal) ∧ refProb x = (p : EReal) := by
  have div_real : ∀ y : ℝ, y ≠ 0 → Ideal.div ((1 : ℝ) : EReal) (y : EReal) = ((1 / y : ℝ) : EReal) := fun y hy => by
    rw [Ideal.div_coe hy, ← EReal.coe_mul, one_mul]
  induction x using EReal.rec with
  | bot =>
    refine ⟨0, ?_, ?_⟩
    · have h : Ideal.cmp .oge (⊥ : EReal) 0 ≠ 1#1 := by simp [Ideal.cmp]
      rw [kernelProb, if_neg h]
      have he : Ideal.exp (-max ⊥ (-⊥)) = 0 := by rw [EReal.neg_bot, bot_sup_eq, EReal.neg_top]; rfl
      rw [he, zero_mul, EReal.coe_zero]
    · have he : Ideal.exp (-⊥) = ⊤ := by rw [EReal.neg_bot]; rfl
      rw [refProb, he, EReal.coe_add_top, Ideal.div, if_neg EReal.top_ne_zero, EReal.inv_top, mul_zero, EReal.coe_zero]
  | top =>
    refine ⟨1, ?_, ?_⟩
    · have h : Ideal.cmp .oge (⊤ : EReal) 0 = 1#1 := by simp [Ideal.cmp]
      rw [kernelProb, if_pos h]
      have he : Ideal.exp (-max ⊤ (-⊤)) = 0 := by rw [EReal.neg_top, sup_bot_eq, EReal.neg_top]; rfl
      rw [he, add_zero, div_real 1 one_ne_zero, div_one]
    · have he : Ideal.exp (-⊤) = 0 := by rw [EReal.neg_top]; rfl
      rw [refProb, he, add_zero, div_real 1 one_ne_zero, div_one]
  | coe r =>
    have hneg : (1 : ℝ) + Real.exp (-r) ≠ 0 := (add_pos one_pos (Real.exp_pos _)).ne'
    have hpos : (1 : ℝ) + Real.exp r ≠ 0 := (add_pos one_pos (Real.exp_pos _)).ne'
    refine ⟨1 / (1 + Real.exp (-r)), ?_, ?_⟩
    · rcases le_total 0 r with h | h
      · have hc : Ideal.cmp .oge (r : EReal) 0 = 1#1 := by simp [Ideal.cmp, h]
        have hm : max (r : EReal) (-(r : EReal)) = (r : EReal) := by
          rw [← EReal.coe_neg]; exact max_eq_left (EReal.coe_le_coe_iff.2 (by linarith))
        rw [kernelProb, if_pos hc, hm, ← EReal.coe_neg, Ideal.exp_coe, ← EReal.coe_add, div_real _ hneg]
      · have hm : max (r : EReal) (-(r : EReal)) = ((-r : ℝ) : EReal) := by
          rw [← EReal.coe_neg]; exact max_eq_right (EReal.coe_le_coe_iff.2 (by linarith))
        have key : Real.exp r * (1 / (1 + Real.exp r)) = 1 / (1 + Real.exp (-r)) := by
          rw [Real.exp_neg]; have := Real.exp_ne_zero r; field_simp; ring
        rcases h.eq_or_lt with rfl | h
        · have hc : Ideal.cmp .oge ((0 : ℝ) : EReal) 0 = 1#1 := by simp [Ideal.cmp]
          rw [kernelProb, if_pos hc, hm, ← EReal.coe_neg, Ideal.exp_coe, ← EReal.coe_add, neg_neg,
            div_real _ hpos, neg_zero]
        · have hc : Ideal.cmp .oge (r : EReal) 0 ≠ 1#1 := by simp [Ideal.cmp, not_le.2 h]
          rw [kernelProb, if_neg hc, hm, ← EReal.coe_neg, Ideal.exp_coe, ← EReal.coe_add, neg_neg,
            div_real _ hpos, ← EReal.coe_mul, key]
    · rw [refProb, ← EReal.coe_neg, Ideal.exp_coe, ← EReal.coe_add, div_real _ hneg]

/-- Squaring a real number by the power function is multiplying it by itself. -/
theorem pow_two_real (w : ℝ) : Ideal.pow (w : EReal) ((2 : ℝ) : EReal) = ((w * w : ℝ) : EReal) := by
  rw [Ideal.pow_coe_coe]
  exact congrArg _ ((Real.rpow_two w).trans (pow_two w))

/-- At a real target the kernel and the reference add the same number, whatever extended real the logit is. -/
theorem term_eq (x : EReal) (t : ℝ) : kernelTerm (Ideal.exp (-max x (-x))) x (t : EReal) = refTerm x (t : EReal) := by
  obtain ⟨p, hk, hr⟩ := prob_eq x
  have hα : ((3 / 4 : ℝ) : EReal) - ((1 / 2 : ℝ) : EReal) * (t : EReal)
      = ((1 / 4 : ℝ) : EReal) * t + ((3 / 4 : ℝ) : EReal) * (((1 : ℝ) : EReal) - t) := by
    simp only [← EReal.coe_mul, ← EReal.coe_sub, ← EReal.coe_add]; congr 1; ring
  have hw : kernelWeight (p : EReal) (t : EReal) = ((p + t - 2 * p * t : ℝ) : EReal) := by
    simp only [kernelWeight, ← EReal.coe_mul, ← EReal.coe_sub, ← EReal.coe_add]
  have hv : ((1 : ℝ) : EReal) - refTarget (p : EReal) (t : EReal) = ((p + t - 2 * p * t : ℝ) : EReal) := by
    simp only [refTarget, ← EReal.coe_mul, ← EReal.coe_sub, ← EReal.coe_add]; congr 1; ring
  rw [kernelTerm, refTerm, hk, hr, hw, hv, hα, pow_two_real, EReal.coe_mul, mul_assoc, mul_assoc]

end Cert.Focal

end
-- ==== Proof.Block.lean ====
/-
  One block of the kernel: the number its body computes from a block of logits and a block of targets, and what each of the
  two cases of the body leaves in the one-element accumulator.
-/
module

public import proofs.«01_k».proof.Proof.Consts
public import proofs.«01_k».proof.Proof.Element
public import proofs.«01_k».proof.Proof.Gen.KernelIdeal.Frame
public import Idealize.ShloMosaic.Lib.Pipeline.Value
public import Idealize.ShloMosaic.Lib.Tactic

@[expose] public section

noncomputable section

namespace Cert.Focal

open Cert.KernelIdeal Cert.KernelIdeal.Gen Idealize.ShloMosaic Idealize.ShloMosaic.TcCoe Idealize.SL.Sem

/-- What the kernel adds for one element of its arrays. -/
def term (x t : EReal) : EReal := kernelTerm (Ideal.exp (-max x (-x))) x t

/-- The sum of the kernel's terms over one block. -/
def blockSum (x t : S8192x80.Idx → EReal) : EReal := ∑ i : S8192x80.Idx, term (x i) (t i)

/-- One element of the product the body sums, in the body's own operations and constants. -/
def bodyTerm (x t : Ideal .f32) : Ideal .f32 :=
  let e := Ideal.exp (Ideal.ofBits .f32 0x00000000#32 - max x (-x))
  let r := Ideal.div (Ideal.ofBits .f32 0x3F800000#32) (Ideal.ofBits .f32 0x3F800000#32 + e)
  let p := if Ideal.cmp .oge x (Ideal.ofBits .f32 0x00000000#32) = 1#1 then r else e * r
  let w := p + t - Ideal.ofBits .f32 0x40000000#32 * p * t
  (Ideal.ofBits .f32 0x3F400000#32 - Ideal.ofBits .f32 0x3F000000#32 * t)
    * (max x (Ideal.ofBits .f32 0x00000000#32) - x * t + Ideal.log1p e) * w * w

/-- With its constants read as numbers it is the kernel's term. -/
theorem bodyTerm_eq (x t : EReal) : bodyTerm x t = term x t := by
  unfold bodyTerm
  simp only [Ideal.ofBits_zero_f32, one_eq, two_eq, half_eq, threeQuarters_eq, zero_sub]
  rfl

/-- The number the body extracts from its reduction is the block's sum. -/
theorem body_sum (x t : Vec Ideal S8192x80 .f32) : k0_pay2 (F := Ideal) x t = blockSum x t := by
  unfold k0_pay2
  refine (Ideal.multiReduction_add_total (φ := .f32) (axes := [1, 2]) (t := S1) _ 0x00000000#32 reduces_S1x8192x80_S1
    (fun b => by fin_cases b; rfl) (.inl rfl) rfl _).trans ?_
  refine ((Shape.reshapeEquiv shapeCasts_S8192x80_S1x8192x80).sum_comp _).trans ?_
  refine Finset.sum_congr rfl fun i _ => ?_
  rw [← bodyTerm_eq]
  change bodyTerm (x (Shape.reshapeEquiv shapeCasts_S8192x80_S8192x80 i))
    (t (Shape.reshapeEquiv shapeCasts_S8192x80_S8192x80 i)) = _
  rw [Shape.reshapeEquiv_self]

/-- The one-element accumulator has one index. -/
theorem one_index (i j : S1x1.Idx) : i = j := funext fun a => Fin.ext (by
  have hi := (i a).isLt
  have hj := (j a).isLt
  have ha : S1x1.size a = 1 := by fin_cases a <;> rfl
  omega)

/-- The offsets the body reads and writes at are zero. -/
theorem zero_offsets : (![0, 0] : Fin 2 → Nat) = fun _ => 0 := funext fun a => by fin_cases a <;> rfl

/-- What a point leaves in the accumulator when it held `acc`: the block's sum, divided by the number of elements, added. -/
def step (s acc : EReal) : EReal := acc + s * ((41943040⁻¹ : ℝ) : EReal)

/-- The store of the accumulator, over the extended reals. -/
theorem body_step (s acc : EReal) : k0_pay1 (F := Ideal) s acc = step s acc := by
  unfold k0_pay1
  rw [invCount_eq]
  rfl

/-- A later point adds its block's share to what the accumulator holds. -/
theorem later_point (c : Dev nD) (i : grid0.Coords) (arg1 : Memref sig .tc .vmem S8192x80 .f32) (harg1 : arg1.IsWhole)
    (arg2 : Memref sig .tc .vmem S8192x80 .f32) (harg2 : arg2.IsWhole) (arg3 : Memref sig .tc .smem S1x1 .f32)
    (harg3 : arg3.IsWhole) (hc0 : ¬cond0_0 i) (x t : Vec Ideal S8192x80 .f32) (acc : Vec Ideal S1x1 .f32) (j : S1x1.Idx) :
    out0_B_2 c i arg1 harg1 arg2 harg2 arg3 harg3 hc0 x t acc j = step (blockSum x t) (acc j) := by
  unfold out0_B_2
  rw [View.read_writes_eq_canon _ _ _ (cover0_B_2 c i arg1 harg1 arg2 harg2 arg3 harg3 hc0 x t acc)]
  unfold kernelRun0_B
  dsimp only
  rw [View.canon_unit_zero zero_offsets]
  sl_unfold_words
  simp only [View.readAt_eq_ld, harg1.read_unread, harg2.read_unread, harg3.read_unread,
    View.ld_unit_zero (S := S8192x80) zero_offsets, View.ld_unit_zero (S := S1x1) zero_offsets]
  rw [body_step, body_sum]
  exact congrArg (fun i => step (blockSum x t) (acc i)) (one_index _ _)

/-- The first point stores zero and then adds its block's share to it. -/
theorem first_point (c : Dev nD) (i : grid0.Coords) (arg1 : Memref sig .tc .vmem S8192x80 .f32) (harg1 : arg1.IsWhole)
    (arg2 : Memref sig .tc .vmem S8192x80 .f32) (harg2 : arg2.IsWhole) (arg3 : Memref sig .tc .smem S1x1 .f32)
    (harg3 : arg3.IsWhole) (hc0 : cond0_0 i) (x t : Vec Ideal S8192x80 .f32) (j : S1x1.Idx) :
    out0_A_2 c i arg1 harg1 arg2 harg2 arg3 harg3 hc0 x t j = step (blockSum x t) 0 := by
  unfold out0_A_2
  rw [View.read_writes_eq_canon _ _ _ (cover0_A_2 c i arg1 harg1 arg2 harg2 arg3 harg3 hc0 x t)]
  unfold kernelRun0_A
  dsimp only
  sl_unfold_words
  rw [View.canon_cons_unit_zero (S := S1x1) zero_offsets]
  simp only [View.readAt_eq_ld, harg1.read_unread, harg2.read_unread,
    View.ld_unit_zero (S := S8192x80) zero_offsets]
  rw [body_step, body_sum]
  exact congrArg (step (blockSum x t)) Ideal.ofBits_zero_f32

end Cert.Focal

end
-- ==== Proof.Reindex.lean ====
/-
  The elements of the [8, 65536, 80] arrays, counted block by block: the arrays are viewed as [524288, 80], cut into 64
  blocks of [8192, 80], and every element lies in exactly one block.
-/
module

public import proofs.«01_k».proof.KernelIdeal
public import Idealize.ShloMosaic.Lib.Pipeline.Value
public import Idealize.ShloMosaic.Lib.ValueIdx
public import Idealize.ShloMosaic.PureOps.Ideal

@[expose] public section

noncomputable section

namespace Cert.Focal

open Cert.KernelIdeal Idealize.ShloMosaic

/-- The index, in the [524288, 80] view, of element `i` of block `t`. -/
def rowIndex (t : Fin 64) (i : S8192x80.Idx) : S524288x80.Idx :=
  ValueIdx.ix2 ⟨8192 * t.val + (i 0).val, by have := (i 0).isLt; have : (i 0).val < 8192 := this; omega⟩ (i 1)

/-- Every index of the [524288, 80] view is an element of exactly one block. -/
theorem rowIndex_bijective : Function.Bijective fun p : Fin 64 × S8192x80.Idx => rowIndex p.1 p.2 := by
  refine (Fintype.bijective_iff_injective_and_card _).2 ⟨?_, ?_⟩
  · rintro ⟨t, i⟩ ⟨u, j⟩ h
    have h0 : 8192 * t.val + (i 0).val = 8192 * u.val + (j 0).val := congrArg (fun k : S524288x80.Idx => (k 0).val) h
    have h1 : (i 1).val = (j 1).val := congrArg (fun k : S524288x80.Idx => (k 1).val) h
    have hi : (i 0).val < 8192 := (i 0).isLt
    have hj : (j 0).val < 8192 := (j 0).isLt
    refine Prod.ext (Fin.ext (by dsimp only; omega)) (funext fun a => Fin.ext ?_)
    match a with
    | ⟨0, _⟩ => show (i 0).val = (j 0).val; omega
    | ⟨1, _⟩ => exact h1
  · rw [Fintype.card_prod, Fintype.card_fin, Shape.card_idx, Shape.card_idx]
    simp [Shape.numel, Fin.prod_univ_two]

/-- A sum over every element of an [8, 65536, 80] array is the sum over the blocks of the sums over each block. -/
theorem sum_blocks (h : S524288x80.numel = S8x65536x80.numel) (f : S8x65536x80.Idx → EReal) :
    ∑ t : Fin 64, ∑ i : S8192x80.Idx, f (Shape.reshapeEquiv h (rowIndex t i)) = ∑ j : S8x65536x80.Idx, f j := by
  rw [← (Shape.reshapeEquiv h).sum_comp f,
    ← rowIndex_bijective.sum_comp fun k => f (Shape.reshapeEquiv h k), Fintype.sum_prod_type]

/-- A nonnegative real factor common to every term of a sum comes out of it, over the extended reals. -/
theorem sum_mul_real {ι : Type} (s : Finset ι) (f : ι → EReal) (r : ℝ) (hr : 0 ≤ r) :
    ∑ k ∈ s, f k * (r : EReal) = (∑ k ∈ s, f k) * (r : EReal) := by
  classical
  induction s using Finset.induction_on with
  | empty => rw [Finset.sum_empty, Finset.sum_empty, zero_mul]
  | insert a s ha ih =>
    rw [Finset.sum_insert ha, Finset.sum_insert ha, ih,
      EReal.right_distrib_of_nonneg_of_ne_top (EReal.coe_nonneg.2 hr) (EReal.coe_ne_top r)]

end Cert.Focal

end
-- ==== Proof.Accumulate.lean ====
/-
  What the kernel's program leaves in its result: the accumulator after each grid point, the one-element array it is
  written back to after the last, and the scalar read out of that array.
-/
module

public import proofs.«01_k».proof.Proof.Block
public import proofs.«01_k».proof.Proof.Reindex
public import Idealize.ShloMosaic.Lib.Pipeline.ValueKit.Geometry
public import Idealize.ShloMosaic.Lib.Claim

@[expose] public section

noncomputable section

namespace Cert.Focal

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The sum of the terms over the block of the logits and the block of the targets at grid point `n`. -/
def pointSum (c : Dev nD) (n : ℕ) : EReal :=
  if h : n < cfg0.N then blockSum (iblk m c 0 ⟨n, h⟩) (iblk m c 1 ⟨n, h⟩) else 0

/-- After grid point `n` the accumulator holds the sum, over the points up to `n`, of the block's sum times the reciprocal of
    the number of elements. -/
theorem accumulator_eq (c : Dev nD) (j : S1x1.Idx) : ∀ (n : ℕ) (h : n < cfg0.N),
    outsAt0 m c n h j = ∑ k ∈ Finset.range (n + 1), pointSum m c k * ((41943040⁻¹ : ℝ) : EReal)
  | 0, h => by
    rw [outsAt0_A m c ⟨0, h⟩ rfl, first_point, Finset.sum_range_one, pointSum, dif_pos h, step, zero_add]
  | n + 1, h => by
    have hN : cfg0.N = 64 := N_0
    have hB : ¬(⟨n + 1, h⟩ : Fin cfg0.N).val % 64 = 0 := by dsimp only; omega
    rw [outsAt0_B m c ⟨n + 1, h⟩ hB, later_point, Finset.sum_range_succ, pointSum, dif_pos h]
    exact congrArg (step _) (accumulator_eq c j n (Nat.lt_of_succ_lt h))

/-- Point 63 is on the grid. -/
theorem lastLt : 63 < cfg0.N := by rw [show cfg0.N = 64 from N_0]; decide

/-- The result array ends holding what the accumulator holds after the last grid point. -/
theorem result_array (c : Dev nD) (j : S1x1.Idx) : (dats m 0 c).arrAt 2 cfg0.N j = outsAt0 m c 63 lastLt j := by
  refine ((dats m 0 c).arrAt_emb_eq_after_last 2 ⟨63, lastLt⟩ (by decide +kernel) j).trans ?_
  rw [after0_2]
  exact congrArg (outsAt0 m c 63 lastLt) (one_index _ _)

/-- The scalar read out of the result array after the grid. -/
theorem result_scalar (c : Dev nD) (j : S_.Idx) (k : S1x1.Idx) :
    Pipeline.afterTail₀ cfgs (dats m) 0 (V0 m) [hostOps1] c main_v3 j = outsAt0 m c 63 lastLt k := by
  have h : Pipeline.afterTail₀ cfgs (dats m) 0 (V0 m) [hostOps1] c main_v3
      = shapeCast S_ ((dats m 0 c).arrAt 2 cfg0.N) shapeCasts_S1x1_S_ := by
    unfold Pipeline.afterTail₀
    rw [List.flatten_cons, List.flatten_nil, List.append_nil, StableHlo.after_cons, StableHlo.after_nil,
      StableHlo.reshape_result']
    exact congrArg (fun A => shapeCast S_ A shapeCasts_S1x1_S_)
      (Pipeline.withArrays_arr spec0 launch0.win.arr_inj c _ _ 2)
  rw [h]
  exact (result_array m c _).trans (congrArg (outsAt0 m c 63 lastLt) (one_index _ _))

/-- The [524288, 80] array of logits the grid reads is the argument in row-major order. -/
theorem logits_view (c : Dev nD) : V m c main_v0
    = shapeCast S524288x80 (m ((c.tc : Thread nD τ).loc main_arg0)) shapeCasts_S8x65536x80_S524288x80 := by
  show StableHlo.after (List.flatten [hostOps0]) (fun b => m (c, b)) (Proc.devRef .tc main_v0) = _
  rw [List.flatten_cons, List.flatten_nil, List.append_nil, StableHlo.after_cons, StableHlo.after_cons, StableHlo.after_nil,
    StableHlo.reshape_result_ne _ _ _ _ _ _ _ (by decide), StableHlo.reshape_result']
  rfl

/-- The [524288, 80] array of targets the grid reads is the argument in row-major order. -/
theorem targets_view (c : Dev nD) : V m c main_v1
    = shapeCast S524288x80 (m ((c.tc : Thread nD τ).loc main_arg1)) shapeCasts_S8x65536x80_S524288x80 := by
  show StableHlo.after (List.flatten [hostOps0]) (fun b => m (c, b)) (Proc.devRef .tc main_v1) = _
  rw [List.flatten_cons, List.flatten_nil, List.append_nil, StableHlo.after_cons, StableHlo.after_cons, StableHlo.after_nil,
    StableHlo.reshape_result', StableHlo.reshape_result_ne _ _ _ _ _ _ _ (by decide)]
  rfl

/-- At point `t` the window of the logits is on block `t` of the rows. -/
theorem logits_at : ∀ t : Fin cfg0.N, win0_0.index t = ![t.val, 0] :=
  (by decide +kernel : ∀ t : Fin grid0.N, win0_0.index t = ![t.val, 0])

/-- At point `t` the window of the targets is on block `t` of the rows. -/
theorem targets_at : ∀ t : Fin cfg0.N, win0_1.index t = ![t.val, 0] :=
  (by decide +kernel : ∀ t : Fin grid0.N, win0_1.index t = ![t.val, 0])

/-- The block of logits at point `t` holds the rows `8192 t` to `8192 t + 8191`. -/
theorem logits_block (c : Dev nD) (t : Fin cfg0.N) (i : S8192x80.Idx) :
    iblk m c 0 t i = m ((c.tc : Thread nD τ).loc main_arg0)
      (Shape.reshapeEquiv shapeCasts_S8x65536x80_S524288x80 (rowIndex (t.cast N_0) i)) := by
  blk_simp [iblk]
  rw [logits_view]
  unfold shapeCast
  have h : (win0_0.blk t).view.emb i = rowIndex (t.cast N_0) i := by
    blk_ext [logits_at t, rowIndex, Fin.val_cast]
  rw [h]

/-- The block of targets at point `t` holds the rows `8192 t` to `8192 t + 8191`. -/
theorem targets_block (c : Dev nD) (t : Fin cfg0.N) (i : S8192x80.Idx) :
    iblk m c 1 t i = m ((c.tc : Thread nD τ).loc main_arg1)
      (Shape.reshapeEquiv shapeCasts_S8x65536x80_S524288x80 (rowIndex (t.cast N_0) i)) := by
  blk_simp [iblk]
  rw [targets_view]
  unfold shapeCast
  have h : (win0_1.blk t).view.emb i = rowIndex (t.cast N_0) i := by
    blk_ext [targets_at t, rowIndex, Fin.val_cast]
  rw [h]

end Cert.Focal

end
-- ==== Proof.KernelValue.lean ====
/-
  The kernel's result in closed form: the sum of its terms over every element of the arguments, times the reciprocal of the
  number of elements; and the run that ends with it.
-/
module

public import proofs.«01_k».proof.Proof.Accumulate

@[expose] public section

noncomputable section

namespace Cert.Focal

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The mean of the kernel's terms over two arrays. -/
def kernelMean (x t : S8x65536x80.Idx → EReal) : EReal :=
  (∑ i : S8x65536x80.Idx, term (x i) (t i)) * ((41943040⁻¹ : ℝ) : EReal)

/-- The blocks' sums add up to the sum over the whole arrays. -/
theorem sum_points (c : Dev nD) : ∑ k ∈ Finset.range 64, pointSum m c k
    = ∑ i : S8x65536x80.Idx, term (m ((c.tc : Thread nD τ).loc main_arg0) i) (m ((c.tc : Thread nD τ).loc main_arg1) i) := by
  rw [← sum_blocks shapeCasts_S8x65536x80_S524288x80, Finset.sum_range]
  refine Finset.sum_congr rfl fun t _ => ?_
  have ht : t.val < cfg0.N := t.isLt.trans_eq N_0.symm
  rw [pointSum, dif_pos ht]
  refine Finset.sum_congr rfl fun i _ => ?_
  rw [logits_block, targets_block]
  rfl

/-- The accumulator after the last grid point is the mean of the kernel's terms. -/
theorem accumulator_last (c : Dev nD) (j : S1x1.Idx) : outsAt0 m c 63 lastLt j
    = kernelMean (m ((c.tc : Thread nD τ).loc main_arg0)) (m ((c.tc : Thread nD τ).loc main_arg1)) := by
  rw [accumulator_eq, sum_mul_real _ _ _ (by norm_num), sum_points]
  rfl

/-- The kernel's program ends with the mean of its terms as its result and its arguments unchanged. -/
theorem kernel_run : θ_run defs (onTc (τ := τ) (main (F := Ideal))) ⟨m, fun _ => 0, ρ⟩ fun r => ∀ c : Dev nD,
    r.2.mem ((c.tc : Thread nD τ).loc main_v3)
        = (fun _ => kernelMean (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans
        (funext fun j => (result_scalar m c j (ValueIdx.ix2 0 0)).trans (accumulator_last m c _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Focal

end
-- ==== Proof.RefValue.lean ====
/-
  The reference's result in closed form: the sum of its terms over every element of the arguments, divided by the number of
  elements; and the run that ends with it.
-/
module

public import proofs.«01_k».proof.Proof.Consts
public import proofs.«01_k».proof.Proof.Element
public import proofs.«01_k».proof.Proof.Gen.ReferenceIdeal.Run
public import proofs.«01_k».proof.Proof.Gen.ReferenceIdeal.Read
public import Idealize.ShloMosaic.Lib.Quiescent

@[expose] public section

noncomputable section

namespace Cert.Focal

open Cert.ReferenceIdeal Cert.ReferenceIdeal.Gen Cert.ReferenceIdeal.Read
open Idealize.ShloMosaic Idealize.ShloMosaic.TcCoe Idealize.SL.Sem

variable (m : (ℓ : Loc nD τ sig) → Buf (Elt Ideal) ℓ) (ρ : Dev nD → PrngReg)

/-- The mean of the reference's terms over two arrays. -/
def refMean (x t : S8x65536x80.Idx → EReal) : EReal :=
  Ideal.div (∑ i : S8x65536x80.Idx, refTerm (x i) (t i)) ((41943040 : ℝ) : EReal)

/-- One element of the array the reference sums is the reference's term. -/
theorem ref_element (x t : S8x65536x80.Idx → EReal) (i : S8x65536x80.Idx) :
    val_main_v34 (F := Ideal) x t i = refTerm (x i) (t i) := by
  simp only [val_main_v34_apply, val_main_v33_apply, val_main_v32_apply, val_main_v31_apply, val_main_v30_apply,
    val_main_v29_apply, val_main_v28_apply, val_main_v27_apply, val_main_v26_apply, val_main_v25_apply, val_main_v24_apply,
    val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, val_main_v10_apply, val_main_v9_apply, val_main_v8_apply, val_main_v7_apply, val_main_v6_apply,
    val_main_v5_apply, val_main_v4_apply, val_main_v3_apply, val_main_v2_apply, val_main_v1_apply, val_main_v0_apply,
    val_main_cst_apply, val_main_cst_0_apply, val_main_cst_1_apply, val_main_cst_2_apply, val_main_cst_3_apply,
    val_main_cst_4_apply, val_main_cst_5_apply, val_main_cst_6_apply, val_main_cst_7_apply, val_main_cst_8_apply,
    Ideal.ofBits_def, one_eq, two_eq, quarter_eq, threeQuarters_eq, Ideal.ofBits_zero_f32]
  rfl

/-- The reference's result is the mean of its terms. -/
theorem ref_value (x t : S8x65536x80.Idx → EReal) (j : S_.Idx) : val_main_v36 (F := Ideal) x t j = refMean x t := by
  rw [val_main_v36_apply, val_main_v35_apply, val_main_cst_9_apply, val_main_cst_10_apply, Ideal.hostDivf_def,
    Ideal.ofBits_def, Ideal.ofBits_def, Ideal.ofBits_zero_f32, zero_add, count_eq, refMean,
    Finset.sum_congr rfl fun i _ => ref_element x t i]

/-- The reference ends with the mean of its terms as its result and its arguments unchanged. -/
theorem ref_run : θ_run defs (onTc (τ := τ) (main (F := Ideal))) ⟨m, fun _ => 0, ρ⟩ fun r => ∀ c : Dev nD,
    r.2.mem ((c.tc : Thread nD τ).loc main_v36)
        = (fun _ => refMean (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).1.trans (val_main_v36_eq _ _)).trans (funext fun j => ref_value _ _ j), (h c).2⟩)
    (Cert.ReferenceIdeal.Value.run m ρ)

/-- The reference ends with its arguments unchanged and every semaphore counter at zero: it declares none. -/
theorem ref_frame : θ_run defs (onTc (τ := τ) (main (F := Ideal))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0 :=
  (θ_run defs _ _).mono (fun r h => ⟨fun c => (h c).2, sem_eq_zero_of_no_sems rfl r.2⟩) (ref_run m ρ)

end Cert.Focal

end
-- ==== Proof.Equation.lean ====
/-
  The equation of the two means, at arrays whose targets are real numbers.
-/
module

public import proofs.«01_k».proof.Defs
public import proofs.«01_k».proof.Proof.KernelValue
public import proofs.«01_k».proof.Proof.RefValue

@[expose] public section

noncomputable section

namespace Cert.Focal

open Idealize.ShloMosaic

/-- The stated fact of the precondition's program: its bound is broadcast from a scalar. -/
theorem preFacts : Cert.Pre_finite_targets.Facts := ⟨by decide⟩

/-- An extended real whose absolute value is below infinity is a real number. -/
theorem real_of_abs_lt {t : EReal} (h : max t (-t) < ⊤) : ∃ r : ℝ, t = (r : EReal) := by
  induction t using EReal.rec with
  | bot => exact absurd h (by simp)
  | top => exact absurd h (by simp)
  | coe r => exact ⟨r, rfl⟩

/-- Where the precondition holds, every target is a real number. -/
theorem targets_real [Cert.Pre_finite_targets.Facts] (x t : Cert.KernelIdeal.S8x65536x80.Idx → EReal)
    (h : Cert.Pre_finite_targets.fn (F := Ideal) x t = fun _ => 1#1) (i : Cert.KernelIdeal.S8x65536x80.Idx) :
    ∃ r : ℝ, t i = (r : EReal) := by
  have hi : Ideal.cmp .olt (max (t i) (-t i)) (Ideal.ofBits .f32 0x7F800000#32) = 1#1 := congrFun h i
  rw [inf_eq] at hi
  refine real_of_abs_lt (by_contra fun hn => ?_)
  simp [Ideal.cmp, hn] at hi

/-- At real targets the kernel's mean is the reference's. -/
theorem mean_eq (x t : Cert.KernelIdeal.S8x65536x80.Idx → EReal) (h : ∀ i, ∃ r : ℝ, t i = (r : EReal)) :
    kernelMean x t = refMean x t := by
  have hterm : ∀ i, term (x i) (t i) = refTerm (x i) (t i) := fun i => by
    obtain ⟨r, hr⟩ := h i
    rw [hr]
    exact term_eq (x i) r
  rw [kernelMean, refMean, Ideal.div_coe (by norm_num), Finset.sum_congr rfl fun i _ => hterm i, one_div]

end Cert.Focal

end
-- ==== Proof.lean ====
/-
  The claim, assembled: the frames of the kernel, of its idealization and of the reference; the named constant; and the
  equation of the idealized kernel's result with the reference's.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Equation

@[expose] public section

noncomputable section

namespace Cert.Proof

open Idealize.ShloMosaic Idealize.ShloMosaic.TcCoe Idealize.SL.Sem

/-- Every claim about the kernel: each program leaves its arguments unchanged and ends with its semaphore counters at zero;
    the constant the idealization names is the reciprocal of the number of elements; and wherever the targets are real numbers
    the idealized kernel and the reference end with one result. -/
theorem claim : Cert.Claim :=
  ⟨Cert.Kernel.Gen.facts, Cert.KernelIdeal.Gen.facts, Cert.ReferenceIdeal.Gen.facts, Cert.Focal.preFacts,
    fun m ρ _ => Cert.Kernel.Gen.frame m ρ,
    fun m ρ _ => Cert.KernelIdeal.Gen.frame m ρ,
    fun m ρ _ => Cert.KernelIdeal.Gen.frame m ρ,
    fun m ρ _ => Cert.Focal.ref_frame m ρ,
    fun m ρ _ => Cert.Focal.ref_frame m ρ,
    IdealRules.named_const.statement Cert.KernelIdeal.κ "inv_n" .f32 0x32CCCCCD#32 ((41943040⁻¹ : ℝ) : EReal) rfl,
    fun m ρ m' ρ' hpre hagree =>
      ⟨fun c _ => Cert.Focal.kernelMean (m ((c.tc : Thread _ _).loc Cert.KernelIdeal.main_arg0))
          (m ((c.tc : Thread _ _).loc Cert.KernelIdeal.main_arg1)),
        Cert.Focal.kernel_run m ρ,
        (θ_run _ _ _).mono (fun _ h c => ⟨(h c).1.trans (funext fun _ => by
            rw [(hagree c).1, (hagree c).2]
            exact (Cert.Focal.mean_eq _ _ (@Cert.Focal.targets_real Cert.Focal.preFacts _ _ (hpre c))).symm), (h c).2⟩)
          (Cert.Focal.ref_run m' ρ')⟩⟩

end Cert.Proof

end
